-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts [hPre_counts : Cert.Pre_counts.Facts] (m : (ℓ : Loc Cert.KernelIdeal.nD Cert.KernelIdeal.τ Cert.KernelIdeal.sig) → Buf (Elt Ideal) ℓ) : Prop :=
  ∀ c : Dev Cert.KernelIdeal.nD,
    (Cert.Pre_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts [hPre_counts : Cert.Pre_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_counts [hKernelIdeal : Cert.KernelIdeal.Facts] [hPre_counts : Cert.Pre_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_counts [hReferenceIdeal : Cert.ReferenceIdeal.Facts] [hPre_counts : Cert.Pre_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_counts [hKernelIdeal : Cert.KernelIdeal.Facts] [hReferenceIdeal : Cert.ReferenceIdeal.Facts] [hPre_counts : Cert.Pre_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_counts : Cert.Pre_counts.Facts),
    quiescent_Kernel (hKernel := hKernel)
    ∧ quiescent_KernelIdeal (hKernelIdeal := hKernelIdeal)
    ∧ quiescent_KernelIdeal_pre_counts (hKernelIdeal := hKernelIdeal) (hPre_counts := hPre_counts)
    ∧ quiescent_ReferenceIdeal (hReferenceIdeal := hReferenceIdeal)
    ∧ quiescent_ReferenceIdeal_pre_counts (hReferenceIdeal := hReferenceIdeal) (hPre_counts := hPre_counts)
    ∧ preserves_Kernel_KernelIdeal
    ∧ algebraic_KernelIdeal_ReferenceIdeal_pre_counts (hKernelIdeal := hKernelIdeal) (hReferenceIdeal := hReferenceIdeal) (hPre_counts := hPre_counts)
-- ==== Pre_counts.lean ====
abbrev S100000x128 : Shape := ⟨2, ![100000, 128]⟩
abbrev S2x1x256000 : Shape := ⟨3, ![2, 1, 256000]⟩
abbrev S512x128 : Shape := ⟨2, ![512, 128]⟩
abbrev S2x1x100000 : Shape := ⟨3, ![2, 1, 100000]⟩
abbrev S_ : Shape := ⟨0, ![]⟩

class Facts : Prop where
  slices_S2x1x256000_S2x1x100000_0_0_0 : S2x1x256000.Slices ![0, 0, 0] S2x1x100000
  bcast_S_S2x1x100000 : S_.BroadcastsInDim S2x1x100000 (![] : Fin 0 → Fin S2x1x100000.rank)
  reducesTo_S2x1x100000_S_d0_1_2 : S2x1x100000.ReducesTo [0, 1, 2] S_
  h_S_ : 0 < S_.numel

variable [Facts]

def fn {F : FTy → Type} [FloatOps F] (main_arg0 : FVec F S100000x128 .f32) (main_arg1 : IVec S2x1x256000 32) (main_arg2 : FVec F S512x128 .f32) (main_arg3 : FVec F S512x128 .f32) : IVec S_ 1 :=
  let main_v0 : IVec S2x1x100000 32 := (extractStridedSlice S2x1x100000 ![0, 0, 0] · slices_S2x1x256000_S2x1x100000_0_0_0) main_arg1
  let main_c : IVec S_ 32 := constantI S_ 32 0#32
  let main_v1 : IVec S2x1x100000 32 := broadcastInDim S2x1x100000 ![] bcast_S_S2x1x100000 main_c
  let main_v2 : IVec S2x1x100000 1 := cmpi .sge main_v0 main_v1
  let main_c_0 : IVec S_ 1 := constantI S_ 1 1#1
  let main_v3 : IVec S_ 1 := (fun x v => Host.reduce IntOp.andi x v reducesTo_S2x1x100000_S_d0_1_2 h_S_) main_v2 main_c_0
  main_v3
-- ==== Kernel.lean ====
abbrev S100000x128 : Shape := ⟨2, ![100000, 128]⟩
abbrev S2x1x256000 : Shape := ⟨3, ![2, 1, 256000]⟩
abbrev S512x128 : Shape := ⟨2, ![512, 128]⟩
abbrev S2x64x1x4000 : Shape := ⟨4, ![2, 64, 1, 4000]⟩
abbrev S4000x128 : Shape := ⟨2, ![4000, 128]⟩
abbrev S1x1x1x4000 : Shape := ⟨4, ![1, 1, 1, 4000]⟩
abbrev S1x4000 : Shape := ⟨2, ![1, 4000]⟩
abbrev S512x4000 : Shape := ⟨2, ![512, 4000]⟩

abbrev nBuf : Space → Nat
  | .hbm => 8
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1x256000, .i32⟩
  | .hbm, ⟨2, _⟩ => ⟨S512x128, .f32⟩
  | .hbm, ⟨3, _⟩ => ⟨S512x128, .f32⟩
  | .hbm, ⟨4, _⟩ => ⟨S2x64x1x4000, .i32⟩
  | .hbm, ⟨5, _⟩ => ⟨S512x128, .bf16⟩
  | .hbm, ⟨6, _⟩ => ⟨S512x128, .bf16⟩
  | .hbm, ⟨7, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S1x1x1x4000, .i32⟩
  | .local _ .vmem, ⟨3, _⟩ => ⟨S1x1x1x4000, .i32⟩
  | .local _ .vmem, ⟨4, _⟩ => ⟨S1x1x1x4000, .i32⟩
  | .local _ .vmem, ⟨5, _⟩ => ⟨S1x1x1x4000, .i32⟩
  | .local _ .vmem, ⟨6, _⟩ => ⟨S512x128, .bf16⟩
  | .local _ .vmem, ⟨7, _⟩ => ⟨S512x128, .bf16⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x4000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x4000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S100000x128 : Shape := ⟨2, ![100000, 128]⟩
abbrev S2x1x256000 : Shape := ⟨3, ![2, 1, 256000]⟩
abbrev S512x128 : Shape := ⟨2, ![512, 128]⟩
abbrev S1x1x100000 : Shape := ⟨3, ![1, 1, 100000]⟩
abbrev S100000 : Shape := ⟨1, ![100000]⟩
abbrev S_ : Shape := ⟨0, ![]⟩
abbrev S100000x1 : Shape := ⟨2, ![100000, 1]⟩

abbrev nBuf : Space → Nat
  | .hbm => 34
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1x256000, .i32⟩
  | .hbm, ⟨2, _⟩ => ⟨S512x128, .f32⟩
  | .hbm, ⟨3, _⟩ => ⟨S512x128, .f32⟩
  | .hbm, ⟨4, _⟩ => ⟨S1x1x100000, .i32⟩
  | .hbm, ⟨5, _⟩ => ⟨S100000, .i32⟩
  | .hbm, ⟨6, _⟩ => ⟨S1x1x100000, .i32⟩
  | .hbm, ⟨7, _⟩ => ⟨S100000, .i32⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S_, .i32⟩
  | .hbm, ⟨12, _⟩ => ⟨S100000, .i32⟩
  | .hbm, ⟨13, _⟩ => ⟨S100000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S100000, .i32⟩
  | .hbm, ⟨19, _⟩ => ⟨S100000, .i32⟩
  | .hbm, ⟨20, _⟩ => ⟨S100000, .i32⟩
  | .hbm, ⟨21, _⟩ => ⟨S100000x1, .i32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x128, .f32⟩
  | .hbm, ⟨33, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Lookup.lean ====
/-
  A ROW OF A TABLE BY A COUNT: what one grid point of the kernel computes, read at an index.

  The kernel looks a row up by multiplying by a 0/1 matrix. For each node `r` and table row `k` the matrix holds 1 where
  `k` is the node's count cut off at 511, else 0; the product with the table is then the sum over `k` of 512 terms, all but
  one of them `0 · z = 0` (true of every extended real), and the one left is the table's entry in that row. `payload_apply`
  says it of the whole block: the loaded block of `x` plus one row of each table.
-/
module

public import proofs.«01_k».proof.Proof.Gen.KernelIdeal.Skeleton
public import Idealize.ShloMosaic.Lib.ValueIdx
public import Idealize.ShloMosaic.PureOps.Ideal.Laws
public import Idealize.ShloMosaic.Lib.StableHlo.Predicate
public import Idealize.ShloMosaic.Lib.Pipeline.Value

@[expose] public section

noncomputable section

namespace Cert.Lookup

open Idealize.ShloMosaic Idealize.ShloMosaic.ValueIdx
open scoped BigOperators

/-- The table row a count selects: the count, or 511 where it is more. -/
def row (w : BitVec 32) : Fin 512 := ⟨min w.toNat 511, by omega⟩

/-- A count that is not negative, cut off at 511 by the signed minimum, is its row's number. -/
theorem minsi_eq_row (w : BitVec 32) (hw : w.toNat < 2 ^ 31) : IntOp.minsi w 511#32 = BitVec.ofNat 32 (row w).val := by
  have h511 : (511#32 : BitVec 32).toNat = 511 := rfl
  unfold IntOp.minsi
  apply BitVec.eq_of_toNat_eq
  rw [BitVec.toNat_ofNat, Nat.mod_eq_of_lt (by have := (row w).isLt; omega)]
  show _ = min w.toNat 511
  by_cases h : w.slt 511#32 = true
  · have hlt := (StableHlo.Predicate.slt_bool_iff_toNat hw (by rw [h511]; omega)).1 (by rw [h]; rfl)
    rw [if_pos h]; omega
  · have hge : ¬w.toNat < (511#32 : BitVec 32).toNat := fun hlt =>
      h ((StableHlo.Predicate.ofBool_eq_one_iff _).1 ((StableHlo.Predicate.slt_bool_iff_toNat hw (by rw [h511]; omega)).2 hlt))
    rw [if_neg h]; omega

/-- Numbers below 512 are equal exactly when their words are. -/
theorem ofNat_inj {a b : Fin 512} : BitVec.ofNat 32 a.val = BitVec.ofNat 32 b.val ↔ a = b := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- A comparison bit, widened and read as a number, is 1 where the words are equal and 0 elsewhere. -/
theorem bit_value (a b : BitVec 32) :
    (FloatOps.sitofp .f32 ((IntOp.cmpi .eq a b).setWidth 32) : Ideal .f32) = if a = b then (1 : EReal) else 0 := by
  by_cases h : a = b
  · rw [StableHlo.Predicate.cmpi_eq_iff.2 h, if_pos h]
    show (((BitVec.setWidth 32 1#1).toInt : ℝ) : EReal) = 1
    rw [show (BitVec.setWidth 32 1#1).toInt = 1 from by decide]; simp
  · rw [eq_zero_of_ne_one (fun e => h (StableHlo.Predicate.cmpi_eq_iff.1 e)), if_neg h]
    show (((BitVec.setWidth 32 0#1).toInt : ℝ) : EReal) = 0
    rw [show (BitVec.setWidth 32 0#1).toInt = 0 from by decide]; simp

/-- A sum against a 0/1 row with a single 1 picks that entry out. -/
theorem sum_pick (k : Fin 512) (z : Fin 512 → EReal) : ∑ j : Fin 512, (if j = k then (1 : EReal) else 0) * z j = z k := by
  rw [Finset.sum_eq_single k]
  · rw [if_pos rfl, one_mul]
  · intro j _ hj; rw [if_neg hj, zero_mul]
  · intro h; exact absurd (Finset.mem_univ k) h

end Cert.Lookup

namespace Cert.Lookup

open Cert.KernelIdeal Cert.KernelIdeal.Gen Idealize.ShloMosaic Idealize.ShloMosaic.ValueIdx
open scoped BigOperators

/-- The product contracts both operands' first axis, whose 512 positions are the table rows. -/
theorem contr_rank : (dot_S512x4000_S512x128_S4000x128_0_0_1_1_n_n).contr.rank = 1 := rfl
theorem contr_size : (dot_S512x4000_S512x128_S4000x128_0_0_1_1_n_n).contr.size ⟨0, by rw [contr_rank]; exact Nat.one_pos⟩ = 512 := rfl

/-- THE PRODUCT AT (r, c): the accumulator plus the sum over table rows `k` of matrix entry (k, r) times table entry (k, c). -/
theorem product_apply (lhs : FVec Ideal S512x4000 .bf16) (rhs : FVec Ideal S512x128 .bf16) (acc : FVec Ideal S4000x128 .f32)
    (r : Fin 4000) (c : Fin 128) :
    (matmul dot_S512x4000_S512x128_S4000x128_0_0_1_1_n_n none lhs rhs acc : FVec Ideal S4000x128 .f32) (ix2 r c)
      = acc (ix2 r c) + ∑ k : Fin 512, lhs (ix2 k r) * rhs (ix2 k c) := by
  show FloatOps.matmul dot_S512x4000_S512x128_S4000x128_0_0_1_1_n_n none lhs rhs acc (ix2 r c) = _
  rw [Ideal.matmul_apply, ← Equiv.sum_comp (contrEquiv1 _ 512 contr_rank contr_size).symm]
  refine congrArg (acc (ix2 r c) + ·) (Finset.sum_congr rfl fun k _ => ?_)
  have hk := contrEquiv1_symm_val _ 512 contr_rank contr_size k
  have el : (dot_S512x4000_S512x128_S4000x128_0_0_1_1_n_n).lhsIdx (ix2 r c) ((contrEquiv1 _ 512 contr_rank contr_size).symm k) = ix2 k r := by
    funext a; apply Fin.ext
    match a with
    | ⟨0, _⟩ => exact hk
    | ⟨1, _⟩ => rfl
  have er : (dot_S512x4000_S512x128_S4000x128_0_0_1_1_n_n).rhsIdx (ix2 r c) ((contrEquiv1 _ 512 contr_rank contr_size).symm k) = ix2 k c := by
    funext a; apply Fin.ext
    match a with
    | ⟨0, _⟩ => exact hk
    | ⟨1, _⟩ => rfl
  rw [el, er]

/-- The 0/1 matrix the kernel builds from a block of counts. -/
abbrev oneHot (d : IVec S1x1x1x4000 32) : FVec Ideal S512x4000 .bf16 :=
  truncf .bf16 (sitofp .f32 (extui 32 (cmpi .eq (iota .tc S512x4000 32 [0] iota_S512x4000_d0_w32)
    (broadcastTo S512x4000 (minsi (shapeCast S1x4000 d shapeCasts_S1x1x1x4000_S1x4000) (broadcast S1x4000 511#32))
      broadcasts_S1x4000_S512x4000)) natLt_1_32)) bitsLt_bf16_f32

/-- Its entry (k, r) is 1 where `k` is the row node `r`'s count selects, else 0. -/
theorem oneHot_apply (d : IVec S1x1x1x4000 32) (k : Fin 512) (r : Fin 4000)
    (hd : (d (ix4 (0 : Fin 1) (0 : Fin 1) (0 : Fin 1) r)).toNat < 2 ^ 31) :
    oneHot d (ix2 k r) = if k = row (d (ix4 (0 : Fin 1) (0 : Fin 1) (0 : Fin 1) r)) then (1 : EReal) else 0 := by
  show (FloatOps.sitofp .f32 ((IntOp.cmpi .eq (iota .tc S512x4000 32 [0] iota_S512x4000_d0_w32 (ix2 k r))
    (broadcastTo S512x4000 (minsi (shapeCast S1x4000 d shapeCasts_S1x1x1x4000_S1x4000) (broadcast S1x4000 511#32))
      broadcasts_S1x4000_S512x4000 (ix2 k r))).setWidth 32) : Ideal .f32) = _
  rw [bit_value, iota_single_apply, broadcastTo_apply _ _ _ (ix2 (0 : Fin 1) r) (by
    intro a
    match a with
    | ⟨0, _⟩ => rfl
    | ⟨1, _⟩ => rfl)]
  show (if BitVec.ofNat 32 k.val = IntOp.minsi (shapeCast S1x4000 d shapeCasts_S1x1x1x4000_S1x4000 (ix2 (0 : Fin 1) r)) 511#32 then _ else _) = _
  rw [shapeCast_apply _ _ _ (ix4 (0 : Fin 1) (0 : Fin 1) (0 : Fin 1) r) (by
    rw [Shape.rowMajor_val_four, Shape.rowMajor_val_two]; rfl), minsi_eq_row _ hd]
  simp only [ofNat_inj]

/-- One looked-up row: the product of the 0/1 matrix and a table, started at zero, is at (r, c) the table's entry in the row
    node `r`'s count selects. -/
theorem lookup_apply (d : IVec S1x1x1x4000 32) (z : FVec Ideal S512x128 .bf16) (r : Fin 4000) (c : Fin 128)
    (hd : (d (ix4 (0 : Fin 1) (0 : Fin 1) (0 : Fin 1) r)).toNat < 2 ^ 31) :
    (matmul dot_S512x4000_S512x128_S4000x128_0_0_1_1_n_n none (oneHot d) z (constant S4000x128 .f32 0x00000000#32)
      : FVec Ideal S4000x128 .f32) (ix2 r c) = z (ix2 (row (d (ix4 (0 : Fin 1) (0 : Fin 1) (0 : Fin 1) r))) c) := by
  rw [product_apply, constant_apply, Ideal.ofBits_zero_f32, zero_add]
  simp only [oneHot_apply d _ r hd]
  exact sum_pick _ fun k => z (ix2 k c)

/-- WHAT ONE GRID POINT STORES, at (r, c): the block of `x`, plus the positive table's row and the negative table's row. -/
theorem payload_apply (dp dn : IVec S1x1x1x4000 32) (zp zn : FVec Ideal S512x128 .bf16) (x : FVec Ideal S4000x128 .f32)
    (r : Fin 4000) (c : Fin 128) (hp : (dp (ix4 (0 : Fin 1) (0 : Fin 1) (0 : Fin 1) r)).toNat < 2 ^ 31)
    (hn : (dn (ix4 (0 : Fin 1) (0 : Fin 1) (0 : Fin 1) r)).toNat < 2 ^ 31) :
    k0_pay1 (F := Ideal) dp dn zp zn x (ix2 r c)
      = x (ix2 r c) + zp (ix2 (row (dp (ix4 (0 : Fin 1) (0 : Fin 1) (0 : Fin 1) r))) c)
        + zn (ix2 (row (dn (ix4 (0 : Fin 1) (0 : Fin 1) (0 : Fin 1) r))) c) := by
  unfold k0_pay1
  rw [addf_apply, addf_apply, shapeCast_self, shapeCast_self]
  exact congrArg₂ (· + ·) (congrArg (x (ix2 r c) + ·) (lookup_apply dp zp r c hp)) (lookup_apply dn zn r c hn)

end Cert.Lookup

end
-- ==== Proof.Blocks.lean ====
/-
  THE KERNEL'S RESULT ARRAY, from its blocks.

  The kernel works on 25 blocks of 4000 nodes. `found` is the result as one function of the four arguments: at node `n` and
  column `j`, `x[n, j]`, plus entry `j` of the positive table's row for the node's first count, plus entry `j` of the negative
  table's row for its second. What a grid point writes back is its block of `found` (`flushed_eq`), the blocks fill the array
  (`cover`), so the array ends holding `found` (`final_eq`). The nodes' counts are taken not to be negative.
-/
module

public import proofs.«01_k».proof.Proof.Lookup
public import proofs.«01_k».proof.Proof.Gen.KernelIdeal.Value
public import Idealize.ShloMosaic.Lib.Claim

@[expose] public section

noncomputable section

namespace Cert.Blocks

open Cert.KernelIdeal Cert.KernelIdeal.Gen Idealize.ShloMosaic Idealize.ShloMosaic.TcCoe Idealize.ShloMosaic.ValueIdx Idealize.SL.Sem
open Idealize.ShloMosaic.Pipeline (Dat)
open Cert.Lookup (row)

/-- The count of node `n` in row `p` of the counts (0: positive edges, 1: negative edges). -/
def count (d : IVec S2x1x256000 32) (p : Fin 2) (n : Fin 100000) : BitVec 32 := d (ix3 p (0 : Fin 1) (⟨n.val, by omega⟩ : Fin 256000))

/-- The result, as one function of the arguments. -/
def found (x : FVec Ideal S100000x128 .f32) (d : IVec S2x1x256000 32) (zp zn : FVec Ideal S512x128 .f32) : FVec Ideal S100000x128 .f32 :=
  fun i => x i + zp (ix2 (row (count d 0 (i 0))) (i 1 : Fin 128)) + zn (ix2 (row (count d 1 (i 0))) (i 1 : Fin 128))

variable (m : (ℓ : Loc nD τ sig) → Buf (Elt Ideal) ℓ)

/-- Device `c`'s four argument arrays. -/
abbrev argX (c : Dev nD) : FVec Ideal S100000x128 .f32 := m ((c : Thread nD τ).loc main_arg0)
abbrev argD (c : Dev nD) : IVec S2x1x256000 32 := m ((c : Thread nD τ).loc main_arg1)
abbrev argP (c : Dev nD) : FVec Ideal S512x128 .f32 := m ((c : Thread nD τ).loc main_arg2)
abbrev argN (c : Dev nD) : FVec Ideal S512x128 .f32 := m ((c : Thread nD τ).loc main_arg3)

/-- What the result array is shown to hold. -/
abbrev result (c : Dev nD) : Buf (Elt Ideal) ((c : Thread nD τ).loc main_v3) := found (argX m c) (argD m c) (argP m c) (argN m c)

/-! ## The arrays the grid reads -/

/-- The counts, cut into 64 blocks of 4000 per row: the same words in the same order. -/
theorem entry_counts (c : Dev nD) :
    (V m c main_v0 : IVec S2x64x1x4000 32) = shapeCast S2x64x1x4000 (argD m c) shapeCasts_S2x1x256000_S2x64x1x4000 := by
  entry_read; rfl

/-- The positive table, its entries as given: a change of format is the identity on extended reals. -/
theorem entry_pos (c : Dev nD) : (V m c main_v1 : FVec Ideal S512x128 .bf16) = argP m c := by
  entry_read; rfl

/-- The negative table likewise. -/
theorem entry_neg (c : Dev nD) : (V m c main_v2 : FVec Ideal S512x128 .bf16) = argN m c := by
  entry_read; rfl

/-- Entry `r` of block `b` of row `p` is the count of node `4000 b + r`. -/
theorem counts_apply (d : IVec S2x1x256000 32) (p : Fin 2) (b : Fin 64) (r : Fin 4000) (n : Fin 100000) (hn : n.val = b.val * 4000 + r.val) :
    shapeCast S2x64x1x4000 d shapeCasts_S2x1x256000_S2x64x1x4000 (ix4 p b (0 : Fin 1) r) = count d p n := by
  refine shapeCast_apply _ _ _ _ ?_
  rw [Shape.rowMajor_val_three, Shape.rowMajor_val_four]
  show (p.val * 1 + 0) * 256000 + n.val = ((p.val * 64 + b.val) * 1 + 0) * 4000 + r.val
  omega

/-! ## The blocks -/

/-- The block a point takes of each array: the `t`-th of 4000 nodes, or a whole table. -/
theorem index_eq : ∀ t : Fin cfg0.N, win0_0.index t = ![t.val, 0] ∧ win0_1.index t = ![0, t.val, 0, 0] ∧ win0_2.index t = ![1, t.val, 0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![0, t.val, 0, 0] ∧ win0_2.index t = ![1, t.val, 0, 0]
    ∧ win0_3.index t = ![0, 0] ∧ win0_4.index t = ![0, 0] ∧ win0_5.index t = ![t.val, 0])

/-- There are 25 points. -/
theorem point_lt (t : Fin cfg0.N) : t.val < 25 := by
  have h : cfg0.N = 25 := by decide +kernel
  have := t.isLt; omega

/-- The node at place `r` of block `t`. -/
def node (t : Fin cfg0.N) (r : Fin 4000) : Fin 100000 := ⟨t.val * 4000 + r.val, by have := point_lt t; omega⟩

/-- Point `t`'s block of `x`, at (r, j). -/
theorem block_x (c : Dev nD) (t : Fin cfg0.N) (r : Fin 4000) (j : Fin 128) :
    (iblk m c 0 t : FVec Ideal S4000x128 .f32) (ix2 r j) = argX m c (ix2 (node t r) j) := by
  show V m c main_arg0 ((win0_0.rect t).emb (ix2 r j)) = _
  rw [V_main_arg0]
  refine congrArg (argX m c) (funext fun a => Fin.ext ?_)
  rw [Pipeline.Window.rect_emb_val win0_0 t (ix2 r j) a, (index_eq t).1]
  match a with
  | ⟨0, _⟩ => rfl
  | ⟨1, _⟩ => exact (by show 0 * 128 + j.val = j.val; omega)

/-- Point `t`'s block of the positive counts, at place `r`. -/
theorem block_dp (c : Dev nD) (t : Fin cfg0.N) (r : Fin 4000) :
    (iblk m c 1 t : IVec S1x1x1x4000 32) (ix4 (0 : Fin 1) (0 : Fin 1) (0 : Fin 1) r) = count (argD m c) 0 (node t r) := by
  show V m c main_v0 ((win0_1.rect t).emb (ix4 (0 : Fin 1) (0 : Fin 1) (0 : Fin 1) r)) = _
  have e : (win0_1.rect t).emb (ix4 (0 : Fin 1) (0 : Fin 1) (0 : Fin 1) r)
      = (ix4 (0 : Fin 2) (⟨t.val, by have := point_lt t; omega⟩ : Fin 64) (0 : Fin 1) r : S2x64x1x4000.Idx) := by
    refine funext fun a => Fin.ext ?_
    rw [Pipeline.Window.rect_emb_val win0_1 t _ a, (index_eq t).2.1]
    match a with
    | ⟨0, _⟩ => rfl
    | ⟨1, _⟩ => exact (by show t.val * 1 + 0 = t.val; omega)
    | ⟨2, _⟩ => rfl
    | ⟨3, _⟩ => exact (by show 0 * 4000 + r.val = r.val; omega)
  rw [e, entry_counts]
  exact counts_apply _ _ _ _ (node t r) rfl

/-- Point `t`'s block of the negative counts, at place `r`. -/
theorem block_dn (c : Dev nD) (t : Fin cfg0.N) (r : Fin 4000) :
    (iblk m c 2 t : IVec S1x1x1x4000 32) (ix4 (0 : Fin 1) (0 : Fin 1) (0 : Fin 1) r) = count (argD m c) 1 (node t r) := by
  show V m c main_v0 ((win0_2.rect t).emb (ix4 (0 : Fin 1) (0 : Fin 1) (0 : Fin 1) r)) = _
  have e : (win0_2.rect t).emb (ix4 (0 : Fin 1) (0 : Fin 1) (0 : Fin 1) r)
      = (ix4 (1 : Fin 2) (⟨t.val, by have := point_lt t; omega⟩ : Fin 64) (0 : Fin 1) r : S2x64x1x4000.Idx) := by
    refine funext fun a => Fin.ext ?_
    rw [Pipeline.Window.rect_emb_val win0_2 t _ a, (index_eq t).2.2.1]
    match a with
    | ⟨0, _⟩ => rfl
    | ⟨1, _⟩ => exact (by show t.val * 1 + 0 = t.val; omega)
    | ⟨2, _⟩ => rfl
    | ⟨3, _⟩ => exact (by show 0 * 4000 + r.val = r.val; omega)
  rw [e, entry_counts]
  exact counts_apply _ _ _ _ (node t r) rfl

/-- Every point reads the whole positive table. -/
theorem block_p (c : Dev nD) (t : Fin cfg0.N) (k : Fin 512) (j : Fin 128) :
    (iblk m c 3 t : FVec Ideal S512x128 .bf16) (ix2 k j) = argP m c (ix2 k j) := by
  show V m c main_v1 ((win0_3.rect t).emb (ix2 k j)) = _
  rw [entry_pos]
  refine congrArg (argP m c) (funext fun a => Fin.ext ?_)
  rw [Pipeline.Window.rect_emb_val win0_3 t (ix2 k j) a, (index_eq t).2.2.2.1]
  match a with
  | ⟨0, _⟩ => exact (by show 0 * 512 + k.val = k.val; omega)
  | ⟨1, _⟩ => exact (by show 0 * 128 + j.val = j.val; omega)

/-- Every point reads the whole negative table. -/
theorem block_n (c : Dev nD) (t : Fin cfg0.N) (k : Fin 512) (j : Fin 128) :
    (iblk m c 4 t : FVec Ideal S512x128 .bf16) (ix2 k j) = argN m c (ix2 k j) := by
  show V m c main_v2 ((win0_4.rect t).emb (ix2 k j)) = _
  rw [entry_neg]
  refine congrArg (argN m c) (funext fun a => Fin.ext ?_)
  rw [Pipeline.Window.rect_emb_val win0_4 t (ix2 k j) a, (index_eq t).2.2.2.2.1]
  match a with
  | ⟨0, _⟩ => exact (by show 0 * 512 + k.val = k.val; omega)
  | ⟨1, _⟩ => exact (by show 0 * 128 + j.val = j.val; omega)

theorem zero2 : (![0, 0] : Fin 2 → Nat) = fun _ => 0 := funext fun a => by fin_cases a <;> rfl
theorem zero4 : (![0, 0, 0, 0] : Fin 4 → Nat) = fun _ => 0 := funext fun a => by fin_cases a <;> rfl

/-! ## The array -/

/-- WHAT POINT `t` WRITES BACK is block `t` of `result`. -/
theorem flushed_eq (c : Dev nD) (hd : ∀ p n, (count (argD m c) p n).toNat < 2 ^ 31) (t : Fin cfg0.N) :
    (dats m 0 c).flushed 5 t = (win0_5.blk t).view.read (Elt Ideal) (result m c) := by
  rw [Value.flushed5]
  unfold out0_5
  rw [View.canon_unit_zero zero2, View.ld_unit_zero zero4, View.ld_unit_zero zero4, View.ld_unit_zero zero2, View.ld_unit_zero zero2,
    View.ld_unit_zero zero2]
  refine funext fun (y : S4000x128.Idx) => ?_
  show k0_pay1 (F := Ideal) (iblk m c 1 t) (iblk m c 2 t) (iblk m c 3 t) (iblk m c 4 t) (iblk m c 0 t) y
    = found (argX m c) (argD m c) (argP m c) (argN m c) ((win0_5.rect t).emb y)
  have e : (win0_5.rect t).emb y = (ix2 (node t (y 0)) (y 1 : Fin 128) : S100000x128.Idx) := by
    refine funext fun a => Fin.ext ?_
    rw [Pipeline.Window.rect_emb_val win0_5 t y a, (index_eq t).2.2.2.2.2]
    match a with
    | ⟨0, _⟩ => rfl
    | ⟨1, _⟩ => exact (by show 0 * 128 + (y 1).val = (y 1).val; omega)
  rw [e]
  obtain ⟨r, j, rfl⟩ : ∃ (r : Fin 4000) (j : Fin 128), y = ix2 r j := ⟨y 0, y 1, eq_ix2 y⟩
  rw [Cert.Lookup.payload_apply _ _ _ _ _ r j (by rw [block_dp]; exact hd _ _) (by rw [block_dn]; exact hd _ _), block_dp, block_dn,
    block_p, block_n, block_x]
  rfl

/-- The result's blocks fill its array: node `n` is in block `n / 4000`. -/
theorem cover (i : S100000x128.Idx) : ∃ t : Fin cfg0.N, (cfg0.win 5).flush t = true ∧ i ∈ ((cfg0.win 5).blk t).view.set := by
  have hN : cfg0.N = 25 := by decide +kernel
  have h0 : (i 0).val < 100000 := (i 0).isLt
  have h1 : (i 1).val < 128 := (i 1).isLt
  obtain ⟨t, ht⟩ : ∃ t : Fin cfg0.N, t.val = (i 0).val / 4000 := ⟨⟨(i 0).val / 4000, by omega⟩, rfl⟩
  refine ⟨t, flush0_5 t, ?_⟩
  show i ∈ ((View.whole main_v3).slice (win0_5.rect t)).set
  rw [View.set_slice_whole, Rect.mem_set_unit]
  intro a
  show win0_5.index t a * win0_5.size a ≤ (i a).val ∧ (i a).val < win0_5.index t a * win0_5.size a + win0_5.xsize (grid0.coords t) a
  rw [(index_eq t).2.2.2.2.2]
  match a with
  | ⟨0, _⟩ =>
    show t.val * 4000 ≤ (i 0).val ∧ (i 0).val < t.val * 4000 + 4000
    omega
  | ⟨1, _⟩ =>
    show 0 * 128 ≤ (i 1).val ∧ (i 1).val < 0 * 128 + 128
    omega

/-- THE RESULT ARRAY: `found` of the arguments. -/
theorem final_eq (c : Dev nD) (hd : ∀ p n, (count (argD m c) p n).toNat < 2 ^ 31) : (dats m 0 c).arrAt 5 cfg0.N = result m c :=
  (dats m 0 c).arrAt_eq_of_cover 5 (result m c) (fun t _ => flushed_eq m c hd t) cover

/-- The run, read: the result array holds `found` of the arguments, and the arguments are as they were. -/
theorem run (ρ : Dev nD → PrngReg) (hd : ∀ (c : Dev nD) (p n), (count (argD m c) p n).toNat < 2 ^ 31) :
    θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c (hd c)), (h c).2⟩) (Value.run_blocks m ρ)

end Cert.Blocks

end
-- ==== Proof.Rows.lean ====
/-
  THE REFERENCE'S RESULT ARRAY, read at an index.

  The reference cuts both rows of counts off at 511 and takes those rows of the tables: `x + z_pos[dp] + z_neg[dn]`. An index
  of the tables that is negative would be counted from the end, so the reference first adds 512 to such an index; a count that
  is not negative never takes that branch, and the row taken is the one its number says. So the reference's array is the same
  function `found` of the arguments as the kernel's.
-/
module

public import proofs.«01_k».proof.Proof.Blocks
public import proofs.«01_k».proof.Proof.Gen.ReferenceIdeal.Run
public import Idealize.ShloMosaic.Lib.Routing.Ops

@[expose] public section

noncomputable section

namespace Cert.Rows

open Cert.ReferenceIdeal Cert.ReferenceIdeal.Gen Idealize.ShloMosaic Idealize.ShloMosaic.ValueIdx
open Cert.Lookup (row)
open Cert.Blocks (count found)

/-- The counts the reference uses of one row, each cut off at 511. -/
abbrev cut (d : IVec S2x1x256000 32) (off : Fin 3 → Nat) (h : S2x1x256000.Slices off S1x1x100000) : IVec S100000 32 :=
  minsi (shapeCast S100000 (extractStridedSlice S1x1x100000 off d h) shapeCasts_S1x1x100000_S100000)
    (broadcastInDim S100000 ![] bcast_S_S100000 (constantI S_ 32 511#32))

/-- The column of table rows: the cut-off counts, 512 more where one is negative. -/
abbrev rows (a : IVec S100000 32) : IVec S100000x1 32 :=
  broadcastInDim S100000x1 ![0] bcast_S100000_S100000x1_0
    (select (cmpi .slt a (broadcastInDim S100000 ![] bcast_S_S100000 (constantI S_ 32 0#32)))
      (addi a (broadcastInDim S100000 ![] bcast_S_S100000 (constantI S_ 32 512#32))) a)

/-- A cut-off count is its row's number. -/
theorem cut_apply (d : IVec S2x1x256000 32) (off : Fin 3 → Nat) (h : S2x1x256000.Slices off S1x1x100000) (p : Fin 2)
    (hoff : off = ![p.val, 0, 0]) (n : Fin 100000) (hd : (count d p n).toNat < 2 ^ 31) :
    cut d off h (ix1 n) = BitVec.ofNat 32 (row (count d p n)).val := by
  rw [← Cert.Lookup.minsi_eq_row _ hd]
  show IntOp.minsi (shapeCast S100000 (extractStridedSlice S1x1x100000 off d h) shapeCasts_S1x1x100000_S100000 (ix1 n)) 511#32 = _
  refine congrArg (IntOp.minsi · 511#32) ?_
  rw [shapeCast_apply _ _ _ (ix3 (0 : Fin 1) (0 : Fin 1) n) (by
    rw [Shape.rowMajor_val_three, Shape.rowMajor_val_one]
    show (0 * 1 + 0) * 100000 + n.val = n.val
    omega)]
  refine extractStridedSlice_apply _ _ _ _ _ fun a => ?_
  rw [hoff]
  match a with
  | ⟨0, _⟩ => rfl
  | ⟨1, _⟩ => rfl
  | ⟨2, _⟩ => exact (by show n.val = 0 + n.val; omega)

/-- The table row the reference takes for node `n` is that number. -/
theorem rows_apply (a : IVec S100000 32) (n : Fin 100000) (k : Fin 512) (ha : a (ix1 n) = BitVec.ofNat 32 k.val) :
    rows a (ix2 n (0 : Fin 1)) = BitVec.ofNat 32 k.val := by
  have hk := k.isLt
  unfold rows
  rw [broadcastInDim_apply _ _ _ _ (ix1 n) (by intro b; match b with | ⟨0, _⟩ => rfl)]
  show Scalar.select (IntOp.cmpi .slt (a (ix1 n)) 0#32) (IntOp.addi (a (ix1 n)) 512#32) (a (ix1 n)) = _
  rw [ha]
  have hlt : ¬IntOp.cmpi .slt (BitVec.ofNat 32 k.val) 0#32 = 1#1 := fun e => by
    have h0 : (BitVec.ofNat 32 k.val).toNat = k.val := by rw [BitVec.toNat_ofNat]; exact Nat.mod_eq_of_lt (by omega)
    have := (StableHlo.Predicate.slt_iff_toNat (by omega) (by show 0 < 2 ^ 31; omega)).1 e
    exact absurd this (by show ¬_ < 0; omega)
  rw [eq_zero_of_ne_one hlt, select_zero]

/-- The looked-up rows, at node `n` and column `j`. -/
theorem gathered_apply (z : FVec Ideal S512x128 .f32) (a : IVec S100000 32) (n : Fin 100000) (j : Fin 128) (k : Fin 512)
    (ha : a (ix1 n) = BitVec.ofNat 32 k.val) :
    Host.gather gather_S512x128_S100000x1_S100000x128_1_0_n_n_0_1_1128 z (rows a) (ix2 n j) = z (ix2 k j) :=
  Routing.gather_row gather_S512x128_S100000x1_S100000x128_1_0_n_n_0_1_1128 rfl rfl rfl rfl rfl z (rows a) n j k
    (rows_apply a n k ha) (by omega)

/-- THE REFERENCE'S ARRAY is `found` of the arguments. -/
theorem value_eq (x : FVec Ideal S100000x128 .f32) (d : IVec S2x1x256000 32) (zp zn : FVec Ideal S512x128 .f32)
    (hd : ∀ p n, (count d p n).toNat < 2 ^ 31) :
    addf (addf x (Host.gather gather_S512x128_S100000x1_S100000x128_1_0_n_n_0_1_1128 zp
        (rows (cut d ![0, 0, 0] slices_S2x1x256000_S1x1x100000_0_0_0))))
      (Host.gather gather_S512x128_S100000x1_S100000x128_1_0_n_n_0_1_1128 zn
        (rows (cut d ![1, 0, 0] slices_S2x1x256000_S1x1x100000_1_0_0)))
      = found x d zp zn := by
  funext i
  obtain ⟨n, j, rfl⟩ : ∃ (n : Fin 100000) (j : Fin 128), i = ix2 n j := ⟨i 0, i 1, eq_ix2 i⟩
  rw [addf_apply, addf_apply, gathered_apply zp _ n j _ (cut_apply d ![0, 0, 0] slices_S2x1x256000_S1x1x100000_0_0_0 0 rfl n (hd _ _)),
    gathered_apply zn _ n j _ (cut_apply d ![1, 0, 0] slices_S2x1x256000_S1x1x100000_1_0_0 1 rfl n (hd _ _))]
  rfl

end Cert.Rows

end
-- ==== Proof.Equation.lean ====
/-
  THE KERNEL AND THE REFERENCE END WITH THE SAME ARRAY.

  From the precondition, a reduction by `and` over the comparison of every node's counts with zero, no such count is negative
  (`counts_nonneg`). Then both runs end with `found` of the arguments: the kernel's by `Cert.Blocks.run`, the reference's by
  `Cert.Rows.value_eq`.
-/
module

public import proofs.«01_k».proof.Defs
public import proofs.«01_k».proof.Proof.Rows
public import proofs.«01_k».proof.Proof.Gen.Pre_counts
public import Idealize.ShloMosaic.Lib.ReduceAll

@[expose] public section

noncomputable section

namespace Cert.Equation

open Idealize.ShloMosaic Idealize.ShloMosaic.TcCoe Idealize.ShloMosaic.ValueIdx Idealize.SL.Sem

/-- A word that is at least zero, read signed, is below 2^31. -/
theorem toNat_lt_of_nonneg (w : BitVec 32) (h : IntOp.cmpi .sge w 0#32 = 1#1) : w.toNat < 2 ^ 31 := by
  have h' : BitVec.ofBool ((0#32 : BitVec 32).sle w) = 1#1 := h
  have hb := (StableHlo.Predicate.ofBool_eq_one_iff _).1 h'
  rw [BitVec.sle_eq_decide, decide_eq_true_eq, BitVec.toInt_zero] at hb
  rw [BitVec.toInt_eq_toNat_cond] at hb
  have := w.isLt
  split at hb <;> omega

/-- The precondition says that no node's count is negative. -/
theorem counts_nonneg (x : FVec Ideal Cert.Pre_counts.S100000x128 .f32) (d : IVec Cert.Pre_counts.S2x1x256000 32)
    (zp zn : FVec Ideal Cert.Pre_counts.S512x128 .f32) (h : Cert.Pre_counts.fn (F := Ideal) x d zp zn = fun _ => 1#1)
    (p : Fin 2) (n : Fin 100000) : (Cert.Blocks.count d p n).toNat < 2 ^ 31 := by
  have : Subsingleton Cert.Pre_counts.S_.Idx := ⟨fun a b => funext fun e => e.elim0⟩
  have hk := Host.reduce_andi_all _ _ _ _ ix0 (congrFun h ix0) (ix3 p (0 : Fin 1) n)
  refine toNat_lt_of_nonneg _ (Eq.trans (congrArg (IntOp.cmpi .sge · 0#32) ?_) hk)
  refine (extractStridedSlice_apply _ _ _ _ _ fun a => ?_).symm
  match a with
  | ⟨0, _⟩ => exact (by show p.val = 0 + p.val; omega)
  | ⟨1, _⟩ => rfl
  | ⟨2, _⟩ => exact (by show n.val = 0 + n.val; omega)

/-- `Cert.algebraic_KernelIdeal_ReferenceIdeal_pre_counts`: from the same arguments, no count negative, both programs end with
    `found` of the arguments. -/
theorem algebraic : Cert.algebraic_KernelIdeal_ReferenceIdeal_pre_counts := by
  intro m ρ m' ρ' hpre hagree
  have hd : ∀ (c : Dev Cert.KernelIdeal.nD) (p n), (Cert.Blocks.count (Cert.Blocks.argD m c) p n).toNat < 2 ^ 31 :=
    fun c p n => counts_nonneg _ _ _ _ (hpre c) p n
  refine ⟨fun c => Cert.Blocks.result m c, Cert.Blocks.run m ρ hd, ?_⟩
  refine (θ_run Cert.ReferenceIdeal.defs _ _).mono (fun _ h c => ⟨(h c).1.trans ?_, (h c).2⟩) (Cert.ReferenceIdeal.Value.run (F := Ideal) m' ρ')
  rw [(hagree c).1, (hagree c).2.1, (hagree c).2.2.1, (hagree c).2.2.2]
  exact Cert.Rows.value_eq _ _ _ _ (hd c)

end Cert.Equation

end
-- ==== Proof.lean ====
/-
  The proof of `Cert.Claim` (proofs.«01_k».proof.Defs): the frames of the kernel, of the kernel read over extended reals and of
  the reference are the generated ones; nothing was rewritten between the two readings of the kernel; that kernel and reference
  end with equal arrays is `Cert.Equation.algebraic`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_counts
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_counts.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    trivial,
    Cert.Equation.algebraic⟩

end Cert.Proof

end
